-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.Statement Cert.KernelIdeal.S1x4096 .f32

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S65536x512 : Shape := ⟨2, ![65536, 512]⟩
abbrev S256x512 : Shape := ⟨2, ![256, 512]⟩
abbrev S256 : Shape := ⟨1, ![256]⟩
abbrev S_ : Shape := ⟨0, ![]⟩

class Facts : Prop where
  bcast_S_S65536x512 : S_.BroadcastsInDim S65536x512 (![] : Fin 0 → Fin S65536x512.rank)
  bcast_S_S256x512 : S_.BroadcastsInDim S256x512 (![] : Fin 0 → Fin S256x512.rank)
  bcast_S_S256 : S_.BroadcastsInDim S256 (![] : Fin 0 → Fin S256.rank)

variable [Facts]

def fn {F : FTy → Type} [FloatOps F] (main_arg0 : FVec F S65536x512 .f32) (main_arg1 : FVec F S256x512 .f32) (main_arg2 : FVec F S256 .f32) : IVec S65536x512 1 × IVec S256x512 1 × IVec S256 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_v3 : FVec F S256x512 .f32 := Host.absf main_arg1
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  (main_v2, main_v5, main_v8)
-- ==== Kernel.lean ====
abbrev S65536x512 : Shape := ⟨2, ![65536, 512]⟩
abbrev S256x512 : Shape := ⟨2, ![256, 512]⟩
abbrev S256 : Shape := ⟨1, ![256]⟩
abbrev S256x1 : Shape := ⟨2, ![256, 1]⟩
abbrev S16x4096x512 : Shape := ⟨3, ![16, 4096, 512]⟩
abbrev S16x4096x256 : Shape := ⟨3, ![16, 4096, 256]⟩
abbrev S1x4096x512 : Shape := ⟨3, ![1, 4096, 512]⟩
abbrev S2x4096x256 : Shape := ⟨3, ![2, 4096, 256]⟩
abbrev S4096x512 : Shape := ⟨2, ![4096, 512]⟩
abbrev S256x4096 : Shape := ⟨2, ![256, 4096]⟩
abbrev S4096 : Shape := ⟨1, ![4096]⟩
abbrev S1x4096 : Shape := ⟨2, ![1, 4096]⟩
abbrev S4096x256 : Shape := ⟨2, ![4096, 256]⟩
abbrev S1x4096x256 : Shape := ⟨3, ![1, 4096, 256]⟩
abbrev S65536x256 : Shape := ⟨2, ![65536, 256]⟩

abbrev nBuf : Space → Nat
  | .hbm => 7
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S256, .f32⟩
  | .hbm, ⟨3, _⟩ => ⟨S256x1, .f32⟩
  | .hbm, ⟨4, _⟩ => ⟨S16x4096x512, .f32⟩
  | .hbm, ⟨5, _⟩ => ⟨S16x4096x256, .f32⟩
  | .hbm, ⟨6, _⟩ => ⟨S65536x256, .f32⟩
  | .local _ .vmem, ⟨0, _⟩ => ⟨S1x4096x512, .f32⟩
  | .local _ .vmem, ⟨1, _⟩ => ⟨S1x4096x512, .f32⟩
  | .local _ .vmem, ⟨2, _⟩ => ⟨S1x4096x512, .f32⟩
  | .local _ .vmem, ⟨3, _⟩ => ⟨S1x4096x512, .f32⟩
  | .local _ .vmem, ⟨4, _⟩ => ⟨S256x512, .f32⟩
  | .local _ .vmem, ⟨5, _⟩ => ⟨S256x1, .f32⟩
  | .local _ .vmem, ⟨6, _⟩ => ⟨S2x4096x256, .f32⟩
  | .local _ .vmem, ⟨7, _⟩ => ⟨S2x4096x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S65536x512 : Shape := ⟨2, ![65536, 512]⟩
abbrev S256x512 : Shape := ⟨2, ![256, 512]⟩
abbrev S256 : Shape := ⟨1, ![256]⟩
abbrev S512x256 : Shape := ⟨2, ![512, 256]⟩
abbrev S65536x256 : Shape := ⟨2, ![65536, 256]⟩
abbrev S1x256 : Shape := ⟨2, ![1, 256]⟩
abbrev S_ : Shape := ⟨0, ![]⟩
abbrev S65536 : Shape := ⟨1, ![65536]⟩
abbrev S65536x1 : Shape := ⟨2, ![65536, 1]⟩

abbrev nBuf : Space → Nat
  | .hbm => 87
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S256, .f32⟩
  | .hbm, ⟨3, _⟩ => ⟨S512x256, .f32⟩
  | .hbm, ⟨4, _⟩ => ⟨S65536x256, .f32⟩
  | .hbm, ⟨5, _⟩ => ⟨S1x256, .f32⟩
  | .hbm, ⟨6, _⟩ => ⟨S65536x256, .f32⟩
  | .hbm, ⟨7, _⟩ => ⟨S65536x256, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S65536x256, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .i1⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x256, .f32⟩
  | .hbm, ⟨49, _⟩ => ⟨S65536x256, .f32⟩
  | .hbm, ⟨50, _⟩ => ⟨S65536x1, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .i1⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1, .f32⟩
  | .hbm, ⟨59, _⟩ => ⟨S65536x1, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S65536x1, .f32⟩
  | .hbm, ⟨71, _⟩ => ⟨S_, .f32⟩
  | .hbm, ⟨72, _⟩ => ⟨S65536x1, .f32⟩
  | .hbm, ⟨73, _⟩ => ⟨S65536x1, .f32⟩
  | .hbm, ⟨74, _⟩ => ⟨S65536x256, .f32⟩
  | .hbm, ⟨75, _⟩ => ⟨S65536x256, .f32⟩
  | .hbm, ⟨76, _⟩ => ⟨S65536x1, .f32⟩
  | .hbm, ⟨77, _⟩ => ⟨S65536x1, .f32⟩
  | .hbm, ⟨78, _⟩ => ⟨S_, .f32⟩
  | .hbm, ⟨79, _⟩ => ⟨S65536x1, .f32⟩
  | .hbm, ⟨80, _⟩ => ⟨S65536x1, .f32⟩
  | .hbm, ⟨81, _⟩ => ⟨S65536x256, .f32⟩
  | .hbm, ⟨82, _⟩ => ⟨S65536x256, .f32⟩
  | .hbm, ⟨83, _⟩ => ⟨S65536x256, .i1⟩
  | .hbm, ⟨84, _⟩ => ⟨S65536x256, .f32⟩
  | .hbm, ⟨85, _⟩ => ⟨S65536x256, .i1⟩
  | .hbm, ⟨86, _⟩ => ⟨S65536x256, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call1_v0 : Ref sig .tc := ⟨.hbm, 83, rfl⟩
abbrev main_v58 : Ref sig .tc := ⟨.hbm, 84, rfl⟩
abbrev main_call2_v0 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== Proof.Consts.lean ====
/- The constants of the kernel and of the reference: the words their texts spell, read as extended reals. -/
module

public import Idealize.ShloMosaic.PureOps
public import Idealize.ShloMosaic.PureOps.Ideal
public import Idealize.ShloMosaic.Lib.ValueIdxCore

@[expose] public section

noncomputable section

namespace Cert.Row

open Idealize.ShloMosaic

/-! ## The constants -/

/-- The bound `S` on the sum of a row. -/
abbrev bound : EReal := Ideal.ofBits .f32 0x3DCCCCCD#32
/-- `-S`. -/
abbrev negBound : EReal := Ideal.ofBits .f32 0xBDCCCCCD#32
/-- The bound `R2` on the sum of squares. -/
abbrev ball : EReal := Ideal.ofBits .f32 0x3CA3D70A#32
/-- The floor put under a divisor. -/
abbrev tiny : EReal := Ideal.ofBits .f32 0x2B8CBCCC#32
/-- `256 * R2 - S * S`, rounded. -/
abbrev gap : EReal := Ideal.ofBits .f32 0x40A3851F#32
/-- `256`. -/
abbrev width : EReal := Ideal.ofBits .f32 0x43800000#32
/-- `1 / 256`. -/
abbrev invWidth : EReal := Ideal.ofBits .f32 0x3B800000#32
/-- `2`. -/
abbrev two : EReal := Ideal.ofBits .f32 0x40000000#32
/-- `1`. -/
abbrev one : EReal := Ideal.ofBits .f32 0x3F800000#32
/-- `-1`. -/
abbrev negOne : EReal := Ideal.ofBits .f32 0xBF800000#32
/-- `0`. -/
abbrev zero : EReal := Ideal.ofBits .f32 0x00000000#32

/-- The word `zero` names is 0. -/
theorem zero_eq : zero = 0 := by simp [zero, Ideal.ofBits, Ideal.ieee]
/-- The word `one` names is 1. -/
theorem one_eq : one = 1 := by simp [one, Ideal.ofBits, Ideal.ieee, -EReal.coe_mul]; norm_num
/-- The word `negOne` names is -1. -/
theorem negOne_eq : negOne = ((-1 : ℝ) : EReal) := by simp [negOne, Ideal.ofBits, Ideal.ieee, -EReal.coe_mul]; norm_num
/-- The word `two` names is 2. -/
theorem two_eq : two = ((2 : ℝ) : EReal) := by simp [two, Ideal.ofBits, Ideal.ieee, -EReal.coe_mul]; norm_num
/-- The word `width` names is 256. -/
theorem width_eq : width = ((256 : ℝ) : EReal) := by simp [width, Ideal.ofBits, Ideal.ieee, -EReal.coe_mul]; norm_num
/-- The word `invWidth` names is 1/256 exactly. -/
theorem invWidth_eq : invWidth = ((1 / 256 : ℝ) : EReal) := by
  simp [invWidth, Ideal.ofBits, Ideal.ieee, -EReal.coe_mul]; norm_num
/-- `S` is a finite number. -/
theorem bound_eq : bound = ((13421773 / 2 ^ 27 : ℝ) : EReal) := by
  simp [bound, Ideal.ofBits, Ideal.ieee, -EReal.coe_mul]; norm_num
/-- `-S` is its negative. -/
theorem negBound_eq : negBound = ((-(13421773 / 2 ^ 27) : ℝ) : EReal) := by
  simp [negBound, Ideal.ofBits, Ideal.ieee, -EReal.coe_mul]; norm_num
/-- `R2` is a finite number, not below zero. -/
theorem ball_eq : ∃ r : ℝ, 0 ≤ r ∧ ball = (r : EReal) := by
  refine ⟨10737418 / 2 ^ 29, by norm_num, ?_⟩
  simp [ball, Ideal.ofBits, Ideal.ieee, -EReal.coe_mul]; norm_num
/-- The floor is a finite number above zero. -/
theorem tiny_eq : ∃ r : ℝ, 0 < r ∧ tiny = (r : EReal) := by
  refine ⟨9223372 / 2 ^ 63, by norm_num, ?_⟩
  simp [tiny, Ideal.ofBits, Ideal.ieee, -EReal.coe_mul]; norm_num
/-- `256 * R2 - S * S`, rounded, is a finite number not below zero. -/
theorem gap_eq : ∃ r : ℝ, 0 ≤ r ∧ gap = (r : EReal) := by
  refine ⟨10716447 / 2 ^ 21, by norm_num, ?_⟩
  simp [gap, Ideal.ofBits, Ideal.ieee, -EReal.coe_mul]; norm_num

end Cert.Row

end
-- ==== Proof.Row.lean ====
/- The mathematics of one row, apart from any program. A row is 256 extended reals; its sum is `t`, the sum of its
   squares `q`. The kernel works from `t` and `q` alone and forms one multiplier and one addend for the whole row; the
   reference forms three candidate rows and picks one. Both are written here as functions of extended reals, in the
   operations and the constants their texts use, and proved equal on a row of finite numbers. -/
module

public import proofs.«01_k».proof.Proof.Consts

@[expose] public section

noncomputable section

namespace Cert.Row

open Idealize.ShloMosaic

/-! ## The kernel's chain -/

/-- What the kernel adds to every element to bring the sum into `[-S, S]`. -/
def kShift (t : EReal) : EReal := (min bound (max negBound t) - t) * invWidth
/-- The kernel's first test: the shifted row lies in the ball. -/
def kFirst (t q : EReal) : BitVec 1 :=
  Ideal.cmp .ole (q + (two * t + width * kShift t) * kShift t) ball
/-- The kernel's scale onto the ball. -/
def kScale (q : EReal) : EReal := min one (Ideal.sqrt ball * Ideal.rsqrt (max q tiny))
/-- The kernel's second test: the scaled row's sum is within the bound. -/
def kSecond (t q : EReal) : BitVec 1 := Ideal.cmp .ole (max t (-t) * kScale q) bound
/-- The kernel's multiplier where both tests fail. -/
def kFactor (t q : EReal) : EReal :=
  Ideal.sqrt (max gap zero) * Ideal.rsqrt (max (width * q - t * t) tiny)
/-- The kernel's sign of the sum. -/
def kSign (t : EReal) : EReal :=
  Scalar.select (Ideal.cmp .ogt (max t (-t)) zero) (Scalar.select (Ideal.cmp .olt t zero) negOne one) t
/-- The kernel's addend where both tests fail. -/
def kLast (t q : EReal) : EReal := (kSign t * bound - kFactor t q * t) * invWidth
/-- The kernel's multiplier of a row. -/
def kMul (t q : EReal) : EReal :=
  Scalar.select (kFirst t q) one (Scalar.select (kSecond t q) (kScale q) (kFactor t q))
/-- The kernel's addend of a row. -/
def kAdd (t q : EReal) : EReal :=
  Scalar.select (kFirst t q) (kShift t) (Scalar.select (kSecond t q) zero (kLast t q))
/-- The kernel's result at one element `z` of a row of sum `t` and sum of squares `q`. -/
def kOut (t q z : EReal) : EReal := kMul t q * z + kAdd t q

/-! ## The reference's chain -/

/-- What the reference adds to every element to bring the sum into `[-S, S]`. -/
def rShift (t : EReal) : EReal := Ideal.div (min bound (max negBound t) - t) width
/-- The reference's scale onto the ball. -/
def rScale (q : EReal) : EReal := min one (Ideal.div (Ideal.sqrt ball) (Ideal.sqrt (max q tiny)))
/-- The reference's multiplier of the last candidate. -/
def rFactor (t q : EReal) : EReal :=
  Ideal.sqrt (Ideal.div (max gap zero) (max (width * q - t * t) tiny))
/-- The reference's result at one element `z` of a row of sum `t` and sum of squares `q`, `s` being the sum of squares
    of the shifted row. -/
def rOut (t q s z : EReal) : EReal :=
  Scalar.select (Ideal.cmp .ole s ball) (z + rShift t)
    (Scalar.select (Ideal.cmp .ole (max t (-t) * rScale q) bound) (z * rScale q)
      (rFactor t q * z + Ideal.div (Ideal.sign t * bound - rFactor t q * t) width))

/-! ## The two agree on finite rows -/

/-- Division by 256 is multiplication by its inverse, of any extended real. -/
theorem div_width (x : EReal) : Ideal.div x width = x * invWidth := by
  have h : (width : EReal) ≠ 0 := by rw [width_eq]; exact_mod_cast (by norm_num : (256 : ℝ) ≠ 0)
  rw [Ideal.div, if_neg h, width_eq, invWidth_eq, ← EReal.coe_inv]
  norm_num

/-- The two shifts are one number. -/
theorem rShift_eq (t : EReal) : rShift t = kShift t := div_width _

/-- The greater of two real numbers, as an extended real. -/
theorem coe_max (a b : ℝ) : ((max a b : ℝ) : EReal) = max (a : EReal) b := EReal.coe_strictMono.monotone.map_max
/-- The lesser of two real numbers, as an extended real. -/
theorem coe_min (a b : ℝ) : ((min a b : ℝ) : EReal) = min (a : EReal) b := EReal.coe_strictMono.monotone.map_min

/-- The shift of a finite sum is finite. -/
theorem kShift_coe (t : ℝ) : ∃ b : ℝ, kShift t = (b : EReal) := by
  refine ⟨(min (13421773 / 2 ^ 27) (max (-(13421773 / 2 ^ 27)) t) - t) * (1 / 256), ?_⟩
  rw [kShift, bound_eq, negBound_eq, invWidth_eq]
  rw [EReal.coe_mul, EReal.coe_sub, coe_min, coe_max]

/-- A root divided by the root of a positive number is the root times the reciprocal root. -/
theorem div_sqrt (a d : ℝ) (hd : 0 < d) :
    Ideal.div (Ideal.sqrt a) (Ideal.sqrt d) = Ideal.sqrt a * Ideal.rsqrt d := by
  have h1 : Ideal.sqrt (d : EReal) = ((Real.sqrt d : ℝ) : EReal) := by
    rw [Ideal.sqrt_coe, if_neg (not_lt.mpr hd.le)]
  have h2 : Ideal.rsqrt (d : EReal) = (((Real.sqrt d)⁻¹ : ℝ) : EReal) := by
    rw [Ideal.rsqrt_coe, if_neg (not_lt.mpr hd.le), if_neg hd.ne']
  have h3 : ((Real.sqrt d : ℝ) : EReal) ≠ 0 := by exact_mod_cast (Real.sqrt_pos.mpr hd).ne'
  rw [h1, h2, Ideal.div, if_neg h3, EReal.coe_inv]

/-- The root of a quotient by a positive number is the root times the reciprocal root. -/
theorem sqrt_div (a d : ℝ) (ha : 0 ≤ a) (hd : 0 < d) :
    Ideal.sqrt (Ideal.div a d) = Ideal.sqrt a * Ideal.rsqrt d := by
  have h1 : Ideal.sqrt (a : EReal) = ((Real.sqrt a : ℝ) : EReal) := by
    rw [Ideal.sqrt_coe, if_neg (not_lt.mpr ha)]
  have h2 : Ideal.rsqrt (d : EReal) = (((Real.sqrt d)⁻¹ : ℝ) : EReal) := by
    rw [Ideal.rsqrt_coe, if_neg (not_lt.mpr hd.le), if_neg hd.ne']
  have h3 : (d : EReal) ≠ 0 := by exact_mod_cast hd.ne'
  have h4 : Ideal.sqrt ((a * d⁻¹ : ℝ) : EReal) = ((Real.sqrt (a * d⁻¹) : ℝ) : EReal) := by
    have : 0 ≤ a * d⁻¹ := mul_nonneg ha (inv_nonneg.mpr hd.le)
    rw [Ideal.sqrt_coe, if_neg (not_lt.mpr this)]
  rw [Ideal.div, if_neg h3, ← EReal.coe_inv, ← EReal.coe_mul, h4, h1, h2, ← EReal.coe_mul,
    Real.sqrt_mul ha, Real.sqrt_inv]

/-- The two scales of a finite sum of squares are one number. -/
theorem rScale_eq (q : ℝ) : rScale q = kScale q := by
  obtain ⟨e, he, hte⟩ := tiny_eq
  obtain ⟨r, _, hr⟩ := ball_eq
  rw [rScale, kScale, hte, hr, ← coe_max, div_sqrt _ _ (lt_max_of_lt_right he)]

/-- The two multipliers of the last candidate, of a finite sum and a finite sum of squares, are one number. -/
theorem rFactor_eq (t q : ℝ) : rFactor t q = kFactor t q := by
  obtain ⟨e, he, hte⟩ := tiny_eq
  obtain ⟨g, hg, hge⟩ := gap_eq
  have hz : max gap zero = ((g : ℝ) : EReal) := by
    rw [hge, zero_eq]; exact max_eq_left (by exact_mod_cast hg)
  rw [rFactor, kFactor, hz, hte, width_eq, ← EReal.coe_mul, ← EReal.coe_mul, ← EReal.coe_sub, ← coe_max,
    sqrt_div _ _ hg (lt_max_of_lt_right he)]

/-- The kernel's sign of a finite number is its sign. -/
theorem kSign_eq (t : ℝ) : kSign t = Ideal.sign t := by
  rw [kSign, zero_eq, one_eq, negOne_eq]
  rcases lt_trichotomy t 0 with h | h | h
  · have h1 : (t : EReal) < 0 := by exact_mod_cast h
    have h2 : (0 : EReal) < max (t : EReal) (-t) := lt_max_of_lt_right (by exact_mod_cast neg_pos.mpr h)
    rw [Ideal.sign_coe]
    simp [Ideal.cmp, Scalar.select, h1, h, -lt_sup_iff, h2]
  · subst h
    rw [Ideal.sign_coe]
    simp [Ideal.cmp, Scalar.select]
  · have h1 : ¬ (t : EReal) < 0 := not_lt.mpr (by exact_mod_cast h.le)
    have h2 : (0 : EReal) < max (t : EReal) (-t) := lt_max_of_lt_left (by exact_mod_cast h)
    rw [Ideal.sign_coe]
    simp [Ideal.cmp, Scalar.select, h1, h, -lt_sup_iff, h2]

/-- The coercion of a finite sum of real numbers. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- The sum of squares of a row shifted by `b` throughout, of finite numbers, from the row's sum and sum of squares. -/
theorem sum_shift_sq (z : Fin 256 → ℝ) (b : ℝ) :
    ∑ j, ((z j : EReal) + b) * ((z j : EReal) + b)
      = (∑ j, (z j : EReal) * z j) + (two * (∑ j, (z j : EReal)) + width * b) * b := by
  rw [two_eq, width_eq]
  have h : ∑ j, (z j + b) * (z j + b) = (∑ j, z j * z j) + (2 * (∑ j, z j) + 256 * b) * b := by
    have : ∀ j, (z j + b) * (z j + b) = z j * z j + 2 * b * z j + b * b := fun j => by ring
    simp only [this, Finset.sum_add_distrib, ← Finset.mul_sum, Finset.sum_const, Finset.card_univ, Fintype.card_fin]
    simp only [nsmul_eq_mul]
    push_cast
    ring
  have := congrArg (fun r : ℝ => (r : EReal)) h
  simpa only [EReal.coe_add, EReal.coe_mul, coe_sum] using this

/-- ON A ROW OF FINITE NUMBERS the kernel's element is the reference's. -/
theorem kOut_eq_rOut (z : Fin 256 → EReal) (hz : ∀ j, ∃ r : ℝ, z j = r) (j : Fin 256) :
    kOut (∑ k, z k) (∑ k, z k * z k) (z j)
      = rOut (∑ k, z k) (∑ k, z k * z k) (∑ k, (z k + rShift (∑ l, z l)) * (z k + rShift (∑ l, z l))) (z j) := by
  choose r hr using hz
  obtain rfl : z = fun j => (r j : EReal) := funext hr
  simp only
  have ht : ∑ k, (r k : EReal) = ((∑ k, r k : ℝ) : EReal) := (coe_sum _ _).symm
  have hq : ∑ k, (r k : EReal) * (r k : EReal) = ((∑ k, r k * r k : ℝ) : EReal) := by
    simp only [coe_sum, EReal.coe_mul]
  obtain ⟨b, hb⟩ := kShift_coe (∑ k, r k)
  have hs : ∑ k, ((r k : EReal) + kShift (∑ l, (r l : EReal))) * ((r k : EReal) + kShift (∑ l, (r l : EReal)))
      = (∑ k, (r k : EReal) * r k)
        + (two * (∑ k, (r k : EReal)) + width * kShift (∑ k, (r k : EReal))) * kShift (∑ k, (r k : EReal)) := by
    rw [ht, hb, ← ht]; exact sum_shift_sq r b
  rw [rShift_eq, hs, hq, ht]
  rw [kOut, kMul, kAdd, rOut, rShift_eq, rScale_eq, rFactor_eq, div_width, kFirst, kSecond, kLast, kSign_eq]
  generalize Ideal.cmp .ole _ ball = p
  generalize Ideal.cmp .ole _ bound = p'
  have hp : ∀ c : BitVec 1, c = 1#1 ∨ c = 0#1 := by decide
  rcases hp p with rfl | rfl
  · simp only [ValueIdx.select_one, one_eq, one_mul]
  · rcases hp p' with rfl | rfl
    · simp only [ValueIdx.select_one, ValueIdx.select_zero, zero_eq, add_zero, mul_comm]
    · simp only [ValueIdx.select_zero]

end Cert.Row

end
-- ==== Proof.Half.lean ====
/- What the kernel's body computes of one block of 4096 rows, at an index: row `i` of the block gives a row of 256 numbers
   `z j`, and the body leaves `Row.kOut` of the row's sum, its sum of squares and `z j` at `(i, j)`. The body does this
   twice, once for each of its two blocks of rows; the second time its text is cut into payloads at other places, so the
   two halves are read separately here and found to be one function. -/
module

public import proofs.«01_k».proof.Proof.Row
public import proofs.«01_k».proof.Proof.Gen.KernelIdeal.Skeleton
public import Idealize.ShloMosaic.Lib.Pointwise

@[expose] public section

set_option maxRecDepth 16384

noncomputable section

namespace Cert.KernelIdeal.Half

open Cert.KernelIdeal Cert.KernelIdeal.Gen Idealize.ShloMosaic Cert.Row

/-- Row `i` of a block, through the matrix `w` and less the column `b`. -/
def blockRow (x : FVec Ideal S1x4096x512 .f32) (w : FVec Ideal S256x512 .f32) (b : FVec Ideal S256x1 .f32)
    (i : Fin 4096) (j : Fin 256) : EReal :=
  (∑ k : Fin 512, w (ix2 j k) * x (ix3 0 i k)) - b (ix2 j 0)

/-- What a half leaves at row `i`, column `j` of its block. -/
def halfOut (x : FVec Ideal S1x4096x512 .f32) (w : FVec Ideal S256x512 .f32) (b : FVec Ideal S256x1 .f32)
    (i : Fin 4096) (j : Fin 256) : EReal :=
  kOut (∑ l, blockRow x w b i l) (∑ l, blockRow x w b i l * blockRow x w b i l) (blockRow x w b i j)

/-! ## The layout operations at an index -/

/-- The last steps of a half: a transposed array under a new unit axis, at an index. -/
theorem turned_apply (U : FVec Ideal S256x4096 .f32) (i : Fin 4096) (j : Fin 256) :
    shapeCast S1x4096x256 (transpose S4096x256 [1, 0] U transposes_S256x4096_p1_0_S4096x256)
      shapeCasts_S4096x256_S1x4096x256 (ix3 0 i j) = U (ix2 j i) := by
  pointwise

/-- One row laid under every row, at an index. -/
theorem spread_apply (v : FVec Ideal S1x4096 .f32) (i : Fin 4096) (j : Fin 256) :
    broadcastTo S256x4096 v broadcasts_S1x4096_S256x4096 (ix2 j i) = v (ix2 0 i) := by
  pointwise

variable (x : FVec Ideal S1x4096x512 .f32) (w : FVec Ideal S256x512 .f32) (b : FVec Ideal S256x1 .f32)

/-! ## The first half -/

/-- The first half's array is the row of the block. -/
theorem first_row (i : Fin 4096) (j : Fin 256) : k0_pay2 (F := Ideal) x w b (ix2 j i) = blockRow x w b i j := by
  rw [blockRow]; pointwise [k0_pay2]

/-- The first half's sum of a row. -/
theorem first_sum (i : Fin 4096) : k0_pay3 (F := Ideal) x w b (ix2 0 i) = ∑ j, blockRow x w b i j := by
  simp only [← first_row]; pointwise [k0_pay3]

/-- The first half's sum of squares of a row. -/
theorem first_squares (i : Fin 4096) :
    k0_pay4 (F := Ideal) x w b (ix2 0 i) = ∑ j, blockRow x w b i j * blockRow x w b i j := by
  simp only [← first_row]; pointwise [k0_pay4]

/-- The first half's store, of any vectors. -/
theorem first_store (z : FVec Ideal S256x4096 .f32) (t q s : FVec Ideal S1x4096 .f32) (p : IVec S1x4096 1)
    (e a : FVec Ideal S1x4096 .f32) (i : Fin 4096) (j : Fin 256) :
    k0_pay9 (F := Ideal) z t q s p e a (Scalar.ofBits .f32 0x3DCCCCCD#32) (ix3 0 i j)
      = Scalar.select (p (ix2 0 i)) one
          (Scalar.select (Ideal.cmp .ole (a (ix2 0 i)) bound) (e (ix2 0 i)) (kFactor (t (ix2 0 i)) (q (ix2 0 i))))
          * z (ix2 j i)
        + Scalar.select (p (ix2 0 i)) (s (ix2 0 i))
          (Scalar.select (Ideal.cmp .ole (a (ix2 0 i)) bound) zero (kLast (t (ix2 0 i)) (q (ix2 0 i)))) := by
  refine (turned_apply _ i j).trans ?_
  rw [addf_apply, mulf_apply, spread_apply, spread_apply]
  rfl

/-- THE FIRST HALF at an index. -/
theorem first_apply (i : Fin 4096) (j : Fin 256) :
    k0_pay9 (F := Ideal) (k0_pay2 (F := Ideal) x w b) (k0_pay3 (F := Ideal) x w b) (k0_pay4 (F := Ideal) x w b)
      (k0_pay5 (F := Ideal) x w b) (k0_pay6 (F := Ideal) x w b) (k0_pay7 (F := Ideal) x w b)
      (k0_pay8 (F := Ideal) x w b) (Scalar.ofBits .f32 0x3DCCCCCD#32) (ix3 0 i j) = halfOut x w b i j := by
  have h5 : k0_pay5 (F := Ideal) x w b (ix2 0 i) = kShift (k0_pay3 (F := Ideal) x w b (ix2 0 i)) := rfl
  have h6 : k0_pay6 (F := Ideal) x w b (ix2 0 i)
      = kFirst (k0_pay3 (F := Ideal) x w b (ix2 0 i)) (k0_pay4 (F := Ideal) x w b (ix2 0 i)) := rfl
  have h7 : k0_pay7 (F := Ideal) x w b (ix2 0 i) = kScale (k0_pay4 (F := Ideal) x w b (ix2 0 i)) := rfl
  have h8 : k0_pay8 (F := Ideal) x w b (ix2 0 i)
      = max (k0_pay3 (F := Ideal) x w b (ix2 0 i)) (-k0_pay3 (F := Ideal) x w b (ix2 0 i))
        * kScale (k0_pay4 (F := Ideal) x w b (ix2 0 i)) := rfl
  rw [first_store, h5, h6, h7, h8, first_row, first_sum, first_squares]
  rfl

/-! ## The second half -/

/-- The second half's text, its payloads opened, is the first half's. -/
theorem second_eq_first :
    k0_pay1 (F := Ideal) (k0_pay11 (k0_pay10 (F := Ideal) x) w b) (k0_pay12 (k0_pay10 (F := Ideal) x) w b)
        (k0_pay14 (k0_pay10 (F := Ideal) x) w b) (k0_pay15 (k0_pay10 (F := Ideal) x) w b)
        (k0_pay16 (k0_pay10 (F := Ideal) x) w b) (k0_pay17 (k0_pay10 (F := Ideal) x) w b)
        (k0_pay18 (k0_pay10 (F := Ideal) x) w b) (k0_pay19 (k0_pay10 (F := Ideal) x) w b)
      = k0_pay9 (F := Ideal) (k0_pay2 (F := Ideal) x w b) (k0_pay3 (F := Ideal) x w b) (k0_pay4 (F := Ideal) x w b)
          (k0_pay5 (F := Ideal) x w b) (k0_pay6 (F := Ideal) x w b) (k0_pay7 (F := Ideal) x w b)
          (k0_pay8 (F := Ideal) x w b) (Scalar.ofBits .f32 0x3DCCCCCD#32) := rfl

/-- THE SECOND HALF at an index. -/
theorem second_apply (i : Fin 4096) (j : Fin 256) :
    k0_pay1 (F := Ideal) (k0_pay11 (k0_pay10 (F := Ideal) x) w b) (k0_pay12 (k0_pay10 (F := Ideal) x) w b)
        (k0_pay14 (k0_pay10 (F := Ideal) x) w b) (k0_pay15 (k0_pay10 (F := Ideal) x) w b)
        (k0_pay16 (k0_pay10 (F := Ideal) x) w b) (k0_pay17 (k0_pay10 (F := Ideal) x) w b)
        (k0_pay18 (k0_pay10 (F := Ideal) x) w b) (k0_pay19 (k0_pay10 (F := Ideal) x) w b) (ix3 0 i j)
      = halfOut x w b i j :=
  (congrFun (second_eq_first x w b) _).trans (first_apply x w b i j)

end Cert.KernelIdeal.Half

end
-- ==== Proof.Rows.lean ====
/- The kernel's function of its three arguments: element `(n, j)` of the result is `Row.kOut` of row `n`, which is row `n`
   of the first argument through the matrix and less the vector. -/
module

public import proofs.«01_k».proof.Proof.Row
public import Idealize.ShloMosaic.Lib.Pointwise

@[expose] public section

noncomputable section

namespace Cert.Row

open Idealize.ShloMosaic

variable (x : (⟨2, ![65536, 512]⟩ : Shape).Idx → EReal) (w : (⟨2, ![256, 512]⟩ : Shape).Idx → EReal)
  (b : (⟨1, ![256]⟩ : Shape).Idx → EReal)

/-- Row `n` of the product, less the vector. -/
def argRow (n : Fin 65536) (j : Fin 256) : EReal := (∑ k : Fin 512, w (ix2 j k) * x (ix2 n k)) - b (ix1 j)

/-- The kernel's result at row `n`, column `j`. -/
def outAt (n : Fin 65536) (j : Fin 256) : EReal :=
  kOut (∑ l, argRow x w b n l) (∑ l, argRow x w b n l * argRow x w b n l) (argRow x w b n j)

/-- The kernel's result, as an array. -/
def result : (⟨2, ![65536, 256]⟩ : Shape).Idx → EReal := fun y => outAt x w b (y 0) (y 1)

end Cert.Row

end
-- ==== Proof.Block.lean ====
/- What the kernel's result array holds: the two halves of a block, the block of every grid point, and the array that the
   sixteen blocks of rows fill. -/
module

public import proofs.«01_k».proof.Proof.Half
public import proofs.«01_k».proof.Proof.Rows
public import proofs.«01_k».proof.Proof.Gen.KernelIdeal.Frame
public import Idealize.ShloMosaic.Lib.Pipeline.ValueKit

@[expose] public section

set_option maxRecDepth 16384

noncomputable section

namespace Cert.KernelIdeal.Half

open Cert.KernelIdeal Cert.KernelIdeal.Gen Idealize.ShloMosaic Idealize.ShloMosaic.TcCoe Idealize.SL.Sem Cert.Row
open Idealize.ShloMosaic.Pipeline (Dat)

/-- What the body leaves in its staging buffer, at an index: the first block's half in the first slab, the second
    block's in the second. -/
theorem out_apply (x0 x1 : FVec Ideal S1x4096x512 .f32) (w : FVec Ideal S256x512 .f32) (b : FVec Ideal S256x1 .f32)
    (h : Fin 2) (i : Fin 4096) (j : Fin 256) :
    out0_4 (F := Ideal) x0 x1 w b (ix3 h i j) = halfOut (if h.val = 0 then x0 else x1) w b i j := by
  have h20 : k0_pay20 (F := Ideal) x0 x1 w b = k0_pay10 (F := Ideal) x1 := by
    unfold k0_pay20
    rw [View.ld_unit_zero (funext fun a => by fin_cases a <;> rfl)]
  frame_out
  canon_tiles y hy
  · have e : y = ix3 0 i j := by
      have h1 : i.val = (y 1).val := hy1
      have h2 : j.val = (y 2).val := hy2
      blk_ext <;> omega
    have hh : h.val ≠ 0 := by have : h.val = 1 + (y 0).val := hy0; omega
    rw [if_neg hh, e, h20]
    exact second_apply x1 w b i j
  · have e : y = ix3 0 i j := by
      have h1 : i.val = (y 1).val := hy1
      have h2 : j.val = (y 2).val := hy2
      blk_ext <;> omega
    have hh : h.val = 0 := by have : h.val = (y 0).val := hy0; omega
    rw [if_pos hh, e]
    exact first_apply x0 w b i j

variable (m : (ℓ : Loc nD τ sig) → Buf (Elt Ideal) ℓ)

/-- Where each window's block lies, at every grid point. -/
theorem index_facts : ∀ t : Fin cfg0.N,
    win0_0.index t = ![2 * t.val, 0, 0] ∧ win0_1.index t = ![2 * t.val + 1, 0, 0] ∧ win0_2.index t = ![0, 0]
      ∧ win0_3.index t = ![0, 0] ∧ win0_4.index t = ![t.val, 0, 0] := by decide +kernel

/-- There are eight grid points. -/
theorem point_lt (t : Fin cfg0.N) : t.val < 8 := lt_of_lt_of_eq t.isLt N_0

/-! ## The arguments as the region finds them, and the blocks read off them -/

/-- The first argument, in sixteen blocks of rows. -/
theorem entry_x (c : Dev nD) : V m c main_v1
    = shapeCast S16x4096x512 (m ((c : Thread nD τ).loc main_arg0)) shapeCasts_S65536x512_S16x4096x512 := by
  show StableHlo.after hostOps0 _ _ = _
  after_results
  rfl

/-- The third argument, as a column. -/
theorem entry_b (c : Dev nD) : V m c main_v0
    = shapeCast S256x1 (m ((c : Thread nD τ).loc main_arg2)) shapeCasts_S256_S256x1 := by
  show StableHlo.after hostOps0 _ _ = _
  after_results
  rfl

/-- An array of rows cut into sixteen blocks, at an index. -/
theorem blocks_apply (X : FVec Ideal S65536x512 .f32) (g : Fin 16) (i : Fin 4096) (k : Fin 512) :
    shapeCast S16x4096x512 X shapeCasts_S65536x512_S16x4096x512 (ix3 g i k)
      = X (ix2 ⟨g.val * 4096 + i.val, by omega⟩ k) := by
  pointwise

/-- A vector as a column, at an index. -/
theorem column_apply (X : FVec Ideal S256 .f32) (j : Fin 256) :
    shapeCast S256x1 X shapeCasts_S256_S256x1 (ix2 j 0) = X (ix1 j) := by
  pointwise

/-- The first window's block at point `t` is block `2 t` of the rows. -/
theorem read_first (c : Dev nD) (t : Fin cfg0.N) (i : Fin 4096) (k : Fin 512) :
    iblk m c 0 t (ix3 0 i k) = m ((c : Thread nD τ).loc main_arg0)
      (ix2 ⟨2 * t.val * 4096 + i.val, by have := point_lt t; omega⟩ k) := by
  have := point_lt t
  refine Eq.trans ?_ (blocks_apply (m ((c : Thread nD τ).loc main_arg0)) ⟨2 * t.val, by omega⟩ i k)
  rw [← entry_x]
  blk_ext [iblk, (index_facts t).1]

/-- The second window's block at point `t` is block `2 t + 1` of the rows. -/
theorem read_second (c : Dev nD) (t : Fin cfg0.N) (i : Fin 4096) (k : Fin 512) :
    iblk m c 1 t (ix3 0 i k) = m ((c : Thread nD τ).loc main_arg0)
      (ix2 ⟨(2 * t.val + 1) * 4096 + i.val, by have := point_lt t; omega⟩ k) := by
  have := point_lt t
  refine Eq.trans ?_ (blocks_apply (m ((c : Thread nD τ).loc main_arg0)) ⟨2 * t.val + 1, by omega⟩ i k)
  rw [← entry_x]
  blk_ext [iblk, (index_facts t).2.1]

/-- The third window's block is the matrix. -/
theorem read_matrix (c : Dev nD) (t : Fin cfg0.N) (j : Fin 256) (k : Fin 512) :
    iblk m c 2 t (ix2 j k) = m ((c : Thread nD τ).loc main_arg1) (ix2 j k) := by
  rw [← V_main_arg1 m c]
  blk_ext [iblk, (index_facts t).2.2.1]

/-- The fourth window's block is the vector, as a column. -/
theorem read_column (c : Dev nD) (t : Fin cfg0.N) (j : Fin 256) :
    iblk m c 3 t (ix2 j 0) = m ((c : Thread nD τ).loc main_arg2) (ix1 j) := by
  refine Eq.trans ?_ (column_apply (m ((c : Thread nD τ).loc main_arg2)) j)
  rw [← entry_b]
  blk_ext [iblk, (index_facts t).2.2.2.1]

/-! ## The result array -/

/-- The result array of the region: the kernel's function of the arguments, in sixteen blocks of rows. -/
def blocks (c : Dev nD) : FVec Ideal S16x4096x256 .f32 := fun y =>
  outAt (m ((c : Thread nD τ).loc main_arg0)) (m ((c : Thread nD τ).loc main_arg1)) (m ((c : Thread nD τ).loc main_arg2))
    ⟨(y 0).val * 4096 + (y 1).val, by
      have h0 : (y 0).val < 16 := (y 0).isLt
      have h1 : (y 1).val < 4096 := (y 1).isLt
      omega⟩ (y 2)

/-- A row of either block at point `t` is a row of the arguments. -/
theorem blockRow_eq (c : Dev nD) (t : Fin cfg0.N) (h : Fin 2) (i : Fin 4096) (j : Fin 256) :
    blockRow (if h.val = 0 then iblk m c 0 t else iblk m c 1 t) (iblk m c 2 t) (iblk m c 3 t) i j
      = argRow (m ((c : Thread nD τ).loc main_arg0)) (m ((c : Thread nD τ).loc main_arg1))
          (m ((c : Thread nD τ).loc main_arg2))
          ⟨(2 * t.val + h.val) * 4096 + i.val, by have := point_lt t; omega⟩ j := by
  unfold blockRow argRow
  rw [read_column]
  congr 1
  refine Finset.sum_congr rfl fun k _ => ?_
  rw [read_matrix]
  congr 1
  by_cases hh : h.val = 0
  · rw [if_pos hh, read_first]
    simp only [hh, Nat.add_zero]
  · have h1 : h.val = 1 := by omega
    rw [if_neg hh, read_second]
    simp only [h1]

/-- The result array after the run. -/
theorem array_eq (c : Dev nD) : (dats m 0 c).arrAt 4 cfg0.N = blocks m c := by
  refine (dats m 0 c).arrAt_eq_of_covers 4 _ (by decide +kernel) fun t hf y => ?_
  blk_simp
  rw [after0_4]
  have ht := point_lt t
  obtain ⟨h, i, j, rfl⟩ : ∃ (h : Fin 2) (i : Fin 4096) (j : Fin 256), y = ix3 h i j := ⟨y 0, y 1, y 2, eq_ix3 y⟩
  have e : (win0_4.blk t).view.emb (ix3 h i j) = (ix3 ⟨2 * t.val + h.val, by omega⟩ i j : S16x4096x256.Idx) := by
    blk_ext [(index_facts t).2.2.2.2]
  refine (out_apply _ _ _ _ h i j).trans ((?_ : _ = blocks m c (ix3 ⟨2 * t.val + h.val, by omega⟩ i j)).trans
    (congrArg (blocks m c) e.symm))
  unfold halfOut
  simp only [blockRow_eq]
  rfl

/-! ## The run -/

/-- The sixteen blocks of rows as one array of rows. -/
theorem joined (c : Dev nD) : shapeCast S65536x256 (blocks m c) shapeCasts_S16x4096x256_S65536x256
    = result (m ((c : Thread nD τ).loc main_arg0)) (m ((c : Thread nD τ).loc main_arg1))
        (m ((c : Thread nD τ).loc main_arg2)) := by
  funext y
  obtain ⟨n, j, rfl⟩ : ∃ (n : Fin 65536) (j : Fin 256), y = ix2 n j := ⟨y 0, y 1, eq_ix2 y⟩
  have e : shapeCast S65536x256 (blocks m c) shapeCasts_S16x4096x256_S65536x256 (ix2 n j)
      = blocks m c (ix3 ⟨n.val / 4096, by omega⟩ ⟨n.val % 4096, by omega⟩ j) := by pointwise
  rw [e]
  have hn : n.val / 4096 * 4096 + n.val % 4096 = n.val := by omega
  show outAt _ _ _ ⟨n.val / 4096 * 4096 + n.val % 4096, _⟩ j = outAt _ _ _ n j
  congr 1
  exact Fin.ext hn

/-- After the region the result array is read off the fifth window; the first two windows share one array, which neither
    writes. -/
theorem region_array (c : Dev nD) :
    Pipeline.withArrays spec0 c (V0 m c) (fun w => (dats m 0 c).arrAt w cfg0.N) (Proc.devRef .tc main_v2)
      = (dats m 0 c).arrAt 4 cfg0.N := by
  refine Pipeline.withArrays_arr_shared spec0 c (V0 m c) (fun w => (dats m 0 c).arrAt w cfg0.N) (fun w w' hne he => ?_) 4
  have h4 : ∀ w w' : Fin 5, w ≠ w' → Pipeline.arrRef spec0 w = Pipeline.arrRef spec0 w' → (cfg0.win w).isOut = false := by
    decide
  exact ((dats m 0 c).arrAt_in w (h4 w w' hne he) _).trans (A_eq m c w)

/-- What the lines after the region leave in the result: the region's array, its blocks joined. -/
theorem tail_eq (c : Dev nD) :
    Pipeline.afterTail₀ cfgs (dats m) 0 (V0 m) [hostOps1] c main_v3
      = result (m ((c : Thread nD τ).loc main_arg0)) (m ((c : Thread nD τ).loc main_arg1))
        (m ((c : Thread nD τ).loc main_arg2)) := by
  rw [← joined, ← array_eq]
  unfold Pipeline.afterTail₀
  show StableHlo.after hostOps1 _ _ = _
  after_results
  exact congrArg (fun X : FVec Ideal S16x4096x256 .f32 => shapeCast S65536x256 X shapeCasts_S16x4096x256_S65536x256)
    (region_array m c)

/-- THE KERNEL'S RUN: the result is the kernel's function of the arguments, which end unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = result (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h.1 c).2 main_v3 (Pipeline.mem_restRefs_of main_v3 (by decide) (by decide))).trans (tail_eq m c), h.2 c⟩)
    (θ_run_and (run_main m ρ) (frame_of m ρ (dats m) (A_eq m) (run_main m ρ)))

end Cert.KernelIdeal.Half

end
-- ==== Proof.Finite.lean ====
/- What the precondition gives: every element of every argument is a real number, and so is every element of a row. -/
module

public import proofs.«01_k».proof.Pre_finite_arguments
public import proofs.«01_k».proof.Proof.Rows
public import Idealize.ShloMosaic.Lib.Pointwise

@[expose] public section

noncomputable section

namespace Cert.Row

open Idealize.ShloMosaic

/-- The shape relations the precondition's text states. -/
theorem finiteFacts : Cert.Pre_finite_arguments.Facts := ⟨by decide, by decide, by decide⟩

/-- The word the precondition compares against is the top of the extended reals. -/
theorem top_eq : Ideal.ofBits .f32 0x7F800000#32 = (⊤ : EReal) := by simp [Ideal.ofBits, Ideal.ieee]

/-- A number whose magnitude is below the top is real. -/
theorem real_of_test (x : EReal) (h : Ideal.cmp .olt (max x (-x)) (Ideal.ofBits .f32 0x7F800000#32) = 1#1) :
    ∃ r : ℝ, x = r := by
  rw [top_eq] at h
  have hlt : max x (-x) < ⊤ := by
    by_contra hn
    simp [Ideal.cmp, hn] at h
  have h1 : x < ⊤ := (le_max_left _ _).trans_lt hlt
  have h2 : -x < ⊤ := (le_max_right _ _).trans_lt hlt
  refine ⟨x.toReal, (EReal.coe_toReal h1.ne ?_).symm⟩
  rintro rfl
  simp at h2

section
attribute [local instance] finiteFacts

variable (x : (⟨2, ![65536, 512]⟩ : Shape).Idx → EReal) (w : (⟨2, ![256, 512]⟩ : Shape).Idx → EReal)
  (b : (⟨1, ![256]⟩ : Shape).Idx → EReal)

/-- Under the precondition's first component every element of the first argument is real. -/
theorem finite_first (h : (Cert.Pre_finite_arguments.fn (F := Ideal) x w b).1 = fun _ => 1#1) (y) : ∃ r : ℝ, x y = r :=
  real_of_test _ (congrFun h y)
/-- The same of the second argument. -/
theorem finite_second (h : (Cert.Pre_finite_arguments.fn (F := Ideal) x w b).2.1 = fun _ => 1#1) (y) : ∃ r : ℝ, w y = r :=
  real_of_test _ (congrFun h y)
/-- The same of the third argument. -/
theorem finite_third (h : (Cert.Pre_finite_arguments.fn (F := Ideal) x w b).2.2 = fun _ => 1#1) (y) : ∃ r : ℝ, b y = r :=
  real_of_test _ (congrFun h y)

/-- An element of a row is real where the arguments are. -/
theorem argRow_real (hx : ∀ y, ∃ r : ℝ, x y = r) (hw : ∀ y, ∃ r : ℝ, w y = r) (hb : ∀ y, ∃ r : ℝ, b y = r)
    (n : Fin 65536) (j : Fin 256) : ∃ r : ℝ, argRow x w b n j = r := by
  choose f hf using hx
  choose g hg using hw
  choose d hd using hb
  refine ⟨(∑ k : Fin 512, g (ix2 j k) * f (ix2 n k)) - d (ix1 j), ?_⟩
  simp only [argRow, hf, hg, hd, ← EReal.coe_mul]
  rw [EReal.coe_sub, coe_sum]

end

end Cert.Row

end
-- ==== Proof.Reference.lean ====
/- What the reference computes: its result, read at row `n` and column `j`, is `Row.rOut` of row `n` of the product. The
   reference's text is opened in its own steps: the rows, the sums along a row spread back over a column, then what is
   computed of one row from those. -/
module

public import proofs.«01_k».proof.Proof.Rows
public import proofs.«01_k».proof.Proof.Gen.ReferenceIdeal.Run
public import Idealize.ShloMosaic.Lib.Pointwise

@[expose] public section

noncomputable section

namespace Cert.ReferenceIdeal.Rows

open Idealize.ShloMosaic Cert.ReferenceIdeal Cert.ReferenceIdeal.Facts₀ Cert.ReferenceIdeal.Facts Cert.Row

/-- The product less the vector, as the reference's text has it. -/
def rows (x : FVec Ideal S65536x512 .f32) (w : FVec Ideal S256x512 .f32) (b : FVec Ideal S256 .f32) : FVec Ideal S65536x256 .f32 :=
  subf (Host.dotGeneral dot_S65536x512_S512x256_S65536x256_1_0_0_1_n_n none x
      (transpose S512x256 [1, 0] w transposes_S256x512_S512x256_1_0))
    (broadcastInDim S65536x256 ![0, 1] bcast_S1x256_S65536x256_0_1 (broadcastInDim S1x256 ![1] bcast_S256_S1x256_1 b))

/-- The sums along the rows, as a column. -/
def sums (z : FVec Ideal S65536x256 .f32) : FVec Ideal S65536x1 .f32 :=
  broadcastInDim S65536x1 ![0] bcast_S65536_S65536x1_0
    (Host.reduceAdd z (constant S_ .f32 0x00000000#32) reducesTo_S65536x256_S65536_d1 h_S_)

/-- A column, spread along the rows. -/
def spread {α : Type} (v : S65536x1.Idx → α) : S65536x256.Idx → α :=
  broadcastInDim S65536x256 ![0, 1] bcast_S65536x1_S65536x256_0_1 v

/-- One number, as a column. -/
def fill (v : FVec Ideal S_ .f32) : FVec Ideal S65536x1 .f32 := broadcastInDim S65536x1 ![] bcast_S_S65536x1 v

/-- What brings each row's sum into its bounds, of the column of sums. -/
def shifts (t : FVec Ideal S65536x1 .f32) :
    FVec Ideal S65536x1 .f32 :=
  Host.divf (subf (minimumf (fill (constant S_ .f32 0x3DCCCCCD#32))
    (maximumf (fill (constant S_ .f32 0xBDCCCCCD#32)) t)) t) (fill (constant S_ .f32 0x43800000#32))

/-- The scales onto the ball, of the column of sums of squares. -/
def scales (q : FVec Ideal S65536x1 .f32) : FVec Ideal S65536x1 .f32 :=
  minimumf (fill (constant S_ .f32 0x3F800000#32))
    (Host.divf (fill (Host.sqrt (constant S_ .f32 0x3CA3D70A#32)))
      (Host.sqrt (maximumf q (fill (constant S_ .f32 0x2B8CBCCC#32)))))

/-- The multipliers of the last candidate, of the columns of sums and of sums of squares. -/
def factors (t q : FVec Ideal S65536x1 .f32) : FVec Ideal S65536x1 .f32 :=
  Host.sqrt (Host.divf (fill (maximumf (constant S_ .f32 0x40A3851F#32) (constant S_ .f32 0x00000000#32)))
    (maximumf (subf (mulf (fill (constant S_ .f32 0x43800000#32)) q) (mulf t t)) (fill (constant S_ .f32 0x2B8CBCCC#32))))

/-- The addends of the last candidate. -/
def lasts (t q : FVec Ideal S65536x1 .f32) : FVec Ideal S65536x1 .f32 :=
  Host.divf (subf (mulf (Host.sign t) (fill (constant S_ .f32 0x3DCCCCCD#32))) (mulf (factors t q) t))
    (fill (constant S_ .f32 0x43800000#32))

/-- The result, of the rows. -/
def out (z : FVec Ideal S65536x256 .f32) : FVec Ideal S65536x256 .f32 :=
  select (spread (cmpf .ole (sums (mulf (addf z (spread (shifts (sums z)))) (addf z (spread (shifts (sums z))))))
      (fill (constant S_ .f32 0x3CA3D70A#32))))
    (addf z (spread (shifts (sums z))))
    (select (spread (cmpf .ole (mulf (Host.absf (sums z)) (scales (sums (mulf z z)))) (fill (constant S_ .f32 0x3DCCCCCD#32))))
      (mulf z (spread (scales (sums (mulf z z)))))
      (addf (mulf (spread (factors (sums z) (sums (mulf z z)))) z) (spread (lasts (sums z) (sums (mulf z z))))))

/-! ## Layout steps at an index -/

/-- A row at a column is the sum over the shared axis, less the vector's element. -/
theorem rows_apply (x : FVec Ideal S65536x512 .f32) (w : FVec Ideal S256x512 .f32) (b : FVec Ideal S256 .f32)
    (n : Fin 65536) (j : Fin 256) : rows x w b (ix2 n j) = argRow x w b n j := by
  unfold argRow
  simp only [mul_comm (w _)]
  pointwise [rows]

/-- A column of sums at a row is that row's sum. -/
theorem sums_apply (z : FVec Ideal S65536x256 .f32) (n : Fin 65536) : sums z (ix2 n 0) = ∑ l : Fin 256, z (ix2 n l) := by pointwise [sums]

/-- A spread column at an index is the column at the row. -/
theorem spread_apply {α : Type} (v : S65536x1.Idx → α) (n : Fin 65536) (j : Fin 256) :
    spread v (ix2 n j) = v (ix2 n 0) := by pointwise [spread]

/-- A filled column is its number everywhere. -/
theorem fill_apply (v : FVec Ideal S_ .f32) (n : Fin 65536) : fill v (ix2 n 0) = v ix0 := by pointwise [fill]

/-! ## The columns -/

/-- The shift at a row is the reference's shift of the row's sum. -/
theorem shifts_apply (t : FVec Ideal S65536x1 .f32) (n : Fin 65536) : shifts t (ix2 n 0) = rShift (t (ix2 n 0)) := by
  rfl

/-- The scale at a row is the reference's scale of the row's sum of squares. -/
theorem scales_apply (q : FVec Ideal S65536x1 .f32) (n : Fin 65536) : scales q (ix2 n 0) = rScale (q (ix2 n 0)) := by
  rfl

/-- The multiplier at a row is the reference's multiplier of the two sums. -/
theorem factors_apply (t q : FVec Ideal S65536x1 .f32) (n : Fin 65536) :
    factors t q (ix2 n 0) = rFactor (t (ix2 n 0)) (q (ix2 n 0)) := rfl

/-- The addend at a row, of the two sums. -/
theorem lasts_apply (t q : FVec Ideal S65536x1 .f32) (n : Fin 65536) :
    lasts t q (ix2 n 0) = Ideal.div (Ideal.sign (t (ix2 n 0)) * bound
      - rFactor (t (ix2 n 0)) (q (ix2 n 0)) * t (ix2 n 0)) width := rfl

/-! ## The result -/

/-- The result at an index, every column still named. -/
theorem out_select (z : FVec Ideal S65536x256 .f32) (n : Fin 65536) (j : Fin 256) :
    out z (ix2 n j)
      = Scalar.select (spread (cmpf .ole (sums (mulf (addf z (spread (shifts (sums z)))) (addf z (spread (shifts (sums z))))))
            (fill (constant S_ .f32 0x3CA3D70A#32))) (ix2 n j))
          (z (ix2 n j) + spread (shifts (sums z)) (ix2 n j))
          (Scalar.select (spread (cmpf .ole (mulf (Host.absf (sums z)) (scales (sums (mulf z z))))
              (fill (constant S_ .f32 0x3DCCCCCD#32))) (ix2 n j))
            (z (ix2 n j) * spread (scales (sums (mulf z z))) (ix2 n j))
            (spread (factors (sums z) (sums (mulf z z))) (ix2 n j) * z (ix2 n j)
              + spread (lasts (sums z) (sums (mulf z z))) (ix2 n j))) := rfl

/-- The first test at a row. -/
theorem test_first (s : FVec Ideal S65536x1 .f32) (n : Fin 65536) :
    cmpf .ole s (fill (constant S_ .f32 0x3CA3D70A#32)) (ix2 n 0) = Ideal.cmp .ole (s (ix2 n 0)) ball := rfl

/-- The second test at a row. -/
theorem test_second (t e : FVec Ideal S65536x1 .f32) (n : Fin 65536) :
    cmpf .ole (mulf (Host.absf t) e) (fill (constant S_ .f32 0x3DCCCCCD#32)) (ix2 n 0)
      = Ideal.cmp .ole (max (t (ix2 n 0)) (-t (ix2 n 0)) * e (ix2 n 0)) bound := rfl

/-- The square of a shifted row's element. -/
theorem shifted_square (z : FVec Ideal S65536x256 .f32) (v : FVec Ideal S65536x1 .f32) (n : Fin 65536) (l : Fin 256) :
    mulf (addf z (spread v)) (addf z (spread v)) (ix2 n l)
      = (z (ix2 n l) + v (ix2 n 0)) * (z (ix2 n l) + v (ix2 n 0)) := by
  show (z (ix2 n l) + spread v (ix2 n l)) * (z (ix2 n l) + spread v (ix2 n l)) = _
  rw [spread_apply]

/-- THE RESULT at an index, of any rows. -/
theorem out_apply (z : FVec Ideal S65536x256 .f32) (n : Fin 65536) (j : Fin 256) :
    out z (ix2 n j)
      = rOut (∑ l : Fin 256, z (ix2 n l)) (∑ l : Fin 256, z (ix2 n l) * z (ix2 n l))
          (∑ l : Fin 256, (z (ix2 n l) + rShift (∑ k : Fin 256, z (ix2 n k)))
            * (z (ix2 n l) + rShift (∑ k : Fin 256, z (ix2 n k)))) (z (ix2 n j)) := by
  have hq : sums (mulf z z) (ix2 n 0) = ∑ l : Fin 256, z (ix2 n l) * z (ix2 n l) := sums_apply _ n
  have hs : sums (mulf (addf z (spread (shifts (sums z)))) (addf z (spread (shifts (sums z))))) (ix2 n 0)
      = ∑ l : Fin 256, (z (ix2 n l) + rShift (∑ k : Fin 256, z (ix2 n k)))
            * (z (ix2 n l) + rShift (∑ k : Fin 256, z (ix2 n k))) := by
    rw [sums_apply]
    refine Finset.sum_congr rfl fun l _ => ?_
    rw [shifted_square, shifts_apply, sums_apply]
  rw [out_select]
  simp only [spread_apply, test_first, test_second, shifts_apply, scales_apply, factors_apply, lasts_apply, hs, hq,
    sums_apply]
  rfl

/-- The reference's composed term is the result of its rows. -/
theorem res_eq (m : (ℓ : Loc nD τ sig) → Buf (Elt Ideal) ℓ) (c : Dev nD) :
    Value.res_main_v59 (F := Ideal) m c
      = out (rows (m ((c.tc : Thread nD τ).loc main_arg0)) (m ((c.tc : Thread nD τ).loc main_arg1))
          (m ((c.tc : Thread nD τ).loc main_arg2))) := rfl

end Cert.ReferenceIdeal.Rows

end
-- ==== Proof.Equation.lean ====
/- THE EQUATION: on finite arguments the kernel's function of them is the reference's. -/
module

public import proofs.«01_k».proof.Proof.Finite
public import proofs.«01_k».proof.Proof.Reference

@[expose] public section

noncomputable section

namespace Cert.Row

open Idealize.ShloMosaic Cert.ReferenceIdeal

/-- Where every element of the arguments is real, the kernel's result is the reference's, element by element. -/
theorem result_eq (x : FVec Ideal S65536x512 .f32) (w : FVec Ideal S256x512 .f32) (b : FVec Ideal S256 .f32)
    (hx : ∀ y, ∃ r : ℝ, x y = (r : EReal)) (hw : ∀ y, ∃ r : ℝ, w y = (r : EReal))
    (hb : ∀ y, ∃ r : ℝ, b y = (r : EReal)) :
    result x w b = Cert.ReferenceIdeal.Rows.out (Cert.ReferenceIdeal.Rows.rows x w b) := by
  funext y
  obtain ⟨n, j, rfl⟩ : ∃ (n : Fin 65536) (j : Fin 256), y = ix2 n j := ⟨y 0, y 1, eq_ix2 y⟩
  rw [Cert.ReferenceIdeal.Rows.out_apply]
  simp only [Cert.ReferenceIdeal.Rows.rows_apply]
  exact kOut_eq_rOut (argRow x w b n) (argRow_real x w b hx hw hb n) j

end Cert.Row

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Block
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts
  Cert.Row.finiteFacts

/-- The reference runs, its arguments end unchanged and its semaphores, of which it has none, end at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition, which it does not use. -/
theorem reference_frame_finite : Cert.quiescent_ReferenceIdeal_pre_finite_arguments := fun m ρ _ =>
  reference_frame m ρ trivial

/-- From arguments that agree and are finite, the kernel's result and the reference's are one array. -/
theorem algebraic : Cert.algebraic_KernelIdeal_ReferenceIdeal_pre_finite_arguments := by
  intro m ρ m' ρ' hpre hargs
  refine ⟨fun c => Cert.Row.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Half.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2⟩ := hargs c
  obtain ⟨f0, f1, f2⟩ := hpre c
  rw [Cert.ReferenceIdeal.Rows.res_eq, h0, h1, h2]
  exact (Cert.Row.result_eq _ _ _ (Cert.Row.finite_first _ _ _ f0) (Cert.Row.finite_second _ _ _ f1)
    (Cert.Row.finite_third _ _ _ f2)).symm

/-- All the claims. -/
theorem claim : Cert.Claim :=
  ⟨Cert.Kernel.Gen.facts, Cert.KernelIdeal.Gen.facts, Cert.ReferenceIdeal.Gen.facts, Cert.Row.finiteFacts,
    fun m ρ _ => Cert.Kernel.Gen.frame m ρ,
    fun m ρ _ => Cert.KernelIdeal.Gen.frame m ρ,
    fun m ρ _ => Cert.KernelIdeal.Gen.frame m ρ,
    reference_frame,
    reference_frame_finite,
    IdealRules.sign_bit.statement Cert.KernelIdeal.S1x4096 .f32,
    algebraic⟩

end Cert.Proof

end
